-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x512 : Shape := ⟨2, ![1024, 512]⟩
abbrev S512x512 : Shape := ⟨2, ![512, 512]⟩
abbrev S_ : Shape := ⟨0, ![]⟩

abbrev nBuf : Space → Nat
  | .hbm => 2
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .local _ .vmem, ⟨0, _⟩ => ⟨S512x1024, .bf16⟩
  | .local _ .vmem, ⟨1, _⟩ => ⟨S1024x512, .bf16⟩
  | .local _ .vmem, ⟨2, _⟩ => ⟨S512x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_8 : BitVec 32 := 0#32
  let v17 : BitVec 1 := Scalar.cmpi .eq v2 c0_i32_8
  let v18 : BitVec 32 := Scalar.extui v17
  let c0_i32_9 : BitVec 32 := 0#32
  let v19 : BitVec 1 := Scalar.cmpi .ne v18 c0_i32_9
  v19

def k0_dev2 (d0 : Dev nD) : Nat :=
  let c0_i32_15 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_14 : BitVec 32 := 8#32
  let v28 : BitVec 32 := Scalar.muli v9 c8_i32_14
  let v29 : BitVec 32 := Scalar.addi c0_i32_15 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v30 : BitVec 32 := Scalar.muli v5 c4_i32_16
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v32 : BitVec 32 := Scalar.muli v8 c1_i32_17
  let v33 : BitVec 32 := Scalar.addi v31 v32
  v33.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_10 : BitVec 32 := 1#32
  let v20 : BitVec 1 := Scalar.cmpi .eq v2 c1_i32_10
  let v21 : BitVec 32 := Scalar.extui v20
  let c0_i32_11 : BitVec 32 := 0#32
  let v22 : BitVec 1 := Scalar.cmpi .ne v21 c0_i32_11
  v22

def k0_dev3 (d0 : Dev nD) : Nat :=
  let c0_i32_16 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_15 : BitVec 32 := 8#32
  let v28 : BitVec 32 := Scalar.muli v9 c8_i32_15
  let v29 : BitVec 32 := Scalar.addi c0_i32_16 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_17 : BitVec 32 := 4#32
  let v30 : BitVec 32 := Scalar.muli v5 c4_i32_17
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v32 : BitVec 32 := Scalar.muli v8 c1_i32_18
  let v33 : BitVec 32 := Scalar.addi v31 v32
  v33.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.BlocksKernelIdeal.lean ====
/-
The exchange over the x axis, part 1: devices, buffers, halves and contents.

Device `c` of the 2 x 2 x 4 mesh has x coordinate `side c = c / 8`. Its partner `mate c` is the device with the
other x coordinate and the same y and z. The result buffer of a device is cut into two bands of 512 rows. Band
`side c` is written by `c` itself, from its own block of `x`. The other band is where the partner's copy lands.
`outAt c` is what the whole buffer holds at the end, both bands together, as one function of the index: row `r`
comes from the device of `c`'s pair whose side is `r / 512`, and its columns are those of block `side c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pointwise.Index
public import Idealize.ShloMosaic.Lib.ViewIndex
public import Idealize.ShloMosaic.Lib.Tactic

@[expose] public section

set_option backward.proofsInPublic true

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Devices -/

/-- The x coordinate of a device. -/
def side (c : Dev nD) : ℕ := c.val / 8

/-- The device across the x axis. -/
def mate (c : Dev nD) : Dev nD := ⟨(c.val + 8) % 16, Nat.mod_lt _ (by decide)⟩

/-- The device of `c`'s pair from which row `r` of the result comes. -/
def origin (c : Dev nD) (r : ℕ) (hr : r < 1024) : Dev nD := ⟨8 * (r / 512) + c.val % 8, by show _ < 16; omega⟩

theorem dev_lt (c : Dev nD) : c.val < 16 := c.isLt

theorem side_lt (c : Dev nD) : side c < 2 := by have := dev_lt c; unfold side; omega

theorem mate_val (c : Dev nD) : (mate c).val = (c.val + 8) % 16 := rfl

theorem side_mate (c : Dev nD) : side (mate c) = 1 - side c := by
  have := dev_lt c; unfold side; rw [mate_val]; omega

theorem mate_mate (c : Dev nD) : mate (mate c) = c :=
  Fin.ext (by rw [mate_val, mate_val]; have := dev_lt c; omega)

/-- The pairs as a permutation of the devices. -/
def pairing : Dev nD ≃ Dev nD := ⟨mate, mate, mate_mate, mate_mate⟩

theorem origin_own (c : Dev nD) (r : ℕ) (hr : r < 1024) (h : r / 512 = side c) : origin c r hr = c :=
  Fin.ext (by show 8 * (r / 512) + c.val % 8 = c.val; rw [h]; unfold side; omega)

theorem origin_mate (c : Dev nD) (r : ℕ) (hr : r < 1024) (h : r / 512 = side c) : origin (mate c) r hr = c :=
  Fin.ext (by show 8 * (r / 512) + (mate c).val % 8 = c.val; rw [h, mate_val]; unfold side; have := dev_lt c; omega)

theorem partner_val (c : Dev nD) : (4 * ((c.val / 4) % 2) + (c.val % 4) + 8) - 8 * (c.val / 8) = (mate c).val := by
  rw [mate_val]; have := dev_lt c; omega

/-- The three device names the kernel computes are all the partner's. -/
theorem signal_target (c : Dev nD) : (⟨k0_dev1 c, k0_dev1_lt c⟩ : Dev nD) = mate c := Fin.ext ((k0_dev1_eq c).trans (partner_val c))
theorem copy_target_low (c : Dev nD) (h : k0_cond1 c = 1#1) : (⟨k0_dev2 c, k0_dev2_lt c h⟩ : Dev nD) = mate c := Fin.ext ((k0_dev2_eq c).trans (partner_val c))
theorem copy_target_high (c : Dev nD) (h : k0_cond2 c = 1#1) : (⟨k0_dev3 c, k0_dev3_lt c h⟩ : Dev nD) = mate c := Fin.ext ((k0_dev3_eq c).trans (partner_val c))

/-- The kernel's two conditions tell the sides apart. -/
theorem cond_low : ∀ c : Dev nD, c.val / 8 = 0 → k0_cond1 c = 1#1 ∧ ¬ k0_cond2 c = 1#1 := by decide +kernel
theorem cond_high : ∀ c : Dev nD, c.val / 8 = 1 → ¬ k0_cond1 c = 1#1 ∧ k0_cond2 c = 1#1 := by decide +kernel

/-! ## Buffers -/

abbrev xM : Memref sig .tc .vmem S512x1024 .bf16 := Memref.whole cc0_stg0_0
abbrev oM : Memref sig .tc .vmem S1024x512 .bf16 := Memref.whole cc0_stg1_0
abbrev bM : Memref sig .tc .vmem S512x512 .bf16 := Memref.whole cc0_scratch0

/-- The rows of the result buffer in band `i`. -/
def band (i : ℕ) : Finset S1024x512.Idx := Finset.univ.filter fun j => (j 0).val / 512 = i

theorem mem_band {i : ℕ} {j : S1024x512.Idx} : j ∈ band i ↔ (j 0).val / 512 = i := by
  unfold band; rw [Finset.mem_filter]; exact ⟨fun h => h.2, fun h => ⟨Finset.mem_univ _, h⟩⟩

theorem row_lt (j : S1024x512.Idx) : (j 0).val < 1024 := (j 0).isLt
theorem col_lt (j : S1024x512.Idx) : (j 1).val < 512 := (j 1).isLt

theorem bands_disjoint (c : Dev nD) : Disjoint (band (side c)) (band (1 - side c)) := by
  rw [Finset.disjoint_left]
  intro j h h'
  rw [mem_band] at h h'
  omega

theorem bands_cover (c : Dev nD) : band (side c) ∪ band (1 - side c) = Finset.univ := by
  refine Finset.eq_univ_of_forall fun j => ?_
  rw [Finset.mem_union, mem_band, mem_band]
  have := row_lt j; have := side_lt c; omega

section Bands
variable {ro : Fin 2 → ℕ} (hro : ∀ a, ro a + S512x512.size a ≤ S1024x512.size a) {i : ℕ} (h0 : ro 0 = 512 * i) (h1 : ro 1 = 0)

/-- The rows named by an offset, as the kernel slices them. -/
abbrev rows : Rect S1024x512 := Rect.unit (s := S1024x512) ro S512x512.size hro

include h0 h1

/-- The slice at row `512 * i` is band `i`. -/
theorem rows_set : (rows hro).set = band i := by
  ext j
  rw [Rect.mem_set_unit, mem_band]
  have e0 : S512x512.size (0 : Fin 2) = 512 := rfl
  have e1 : S512x512.size (1 : Fin 2) = 512 := rfl
  constructor
  · intro h
    have := h (0 : Fin 2)
    rw [h0, e0] at this
    omega
  · intro h
    have hj := col_lt j
    refine Fin.forall_fin_two.2 ⟨?_, ?_⟩
    · rw [h0, e0]; omega
    · rw [h1, e1]; omega

theorem slice_set : (oM.slice (rows hro) (fun _ => rfl)).view.set = band i :=
  (View.set_slice _ _).trans ((Finset.map_refl).trans (rows_set hro h0 h1))

theorem slice_emb_row (x : S512x512.Idx) : ((rows hro).emb x (0 : Fin 2)).val = 512 * i + (x (0 : Fin 2)).val := by
  show ro 0 + 1 * (x (0 : Fin 2)).val = _
  rw [h0, Nat.one_mul]

theorem slice_emb_col (x : S512x512.Idx) : ((rows hro).emb x (1 : Fin 2)).val = (x (1 : Fin 2)).val := by
  show ro 1 + 1 * (x (1 : Fin 2)).val = _
  rw [h1, Nat.one_mul, Nat.zero_add]

end Bands

/-! ## Contents -/

variable (m : (ℓ : Loc nD τ sig) → Buf (Elt F) ℓ)

/-- Device `c`'s block of `x`, staged. -/
def xBlk (c : Dev nD) : (cc0_stg0_0 : Ref sig .tc).ty.Contents (Elt F) :=
  (win0_0.blk (0 : Fin 1)).view.read (Elt F) (m ((c : Thread nD τ).loc main_arg0))

/-- Columns `512 * k` to `512 * k + 511` of device `c`'s block of `x`. -/
def colBlk (c : Dev nD) (k : ℕ) (hk : k < 2) : (cc0_scratch0 : Ref sig .tc).ty.Contents (Elt F) := fun j =>
  xBlk m c (ix2 (n0 := 512) (n1 := 1024) (j (0 : Fin 2)) ⟨512 * k + (j (1 : Fin 2)).val, by have h : (j (1 : Fin 2)).val < 512 := (j (1 : Fin 2)).isLt; omega⟩)

/-- What device `c` sends: the columns its partner keeps. -/
def sent (c : Dev nD) : (cc0_scratch0 : Ref sig .tc).ty.Contents (Elt F) := colBlk m c (1 - side c) (by omega)
/-- What device `c` keeps for itself. -/
def kept (c : Dev nD) : (cc0_scratch0 : Ref sig .tc).ty.Contents (Elt F) := colBlk m c (side c) (side_lt c)

/-- The result buffer of device `c` at the end. -/
def outAt (c : Dev nD) : (cc0_stg1_0 : Ref sig .tc).ty.Contents (Elt F) := fun j =>
  xBlk m (origin c (j (0 : Fin 2)).val (row_lt j)) (ix2 (n0 := 512) (n1 := 1024) ⟨(j (0 : Fin 2)).val % 512, Nat.mod_lt _ (by decide)⟩
    ⟨512 * side c + (j (1 : Fin 2)).val, by have := col_lt j; have := side_lt c; omega⟩)

section Columns
variable {co : Fin 2 → ℕ} (hco : ∀ a, co a + S512x512.size a ≤ S512x1024.size a) {k : ℕ} (hk : k < 2) (h0 : co 0 = 0) (h1 : co 1 = 512 * k)

/-- The columns named by an offset, as the kernel loads them. -/
abbrev cols : Rect S512x1024 := Rect.unit (s := S512x1024) co S512x512.size hco

include h0 h1
theorem load_cols (c : Dev nD) : xM.view.readAt (Elt F) (cols hco).toLoadRect (xBlk m c) = colBlk m c k hk := by
  funext j
  show xBlk m c _ = xBlk m c _
  congr 1
  funext a
  revert a
  refine Fin.forall_fin_two.2 ⟨Fin.ext ?_, Fin.ext ?_⟩
  · show co 0 + 1 * (j (0 : Fin 2)).val = (j (0 : Fin 2)).val
    rw [h0, Nat.one_mul, Nat.zero_add]
  · show co 1 + 1 * (j (1 : Fin 2)).val = 512 * k + (j (1 : Fin 2)).val
    rw [h1, Nat.one_mul]

end Columns

section Writes
variable {ro : Fin 2 → ℕ} (hro : ∀ a, ro a + S512x512.size a ≤ S1024x512.size a) (c : Dev nD) (h0 : ro 0 = 512 * side c) (h1 : ro 1 = 0)
include h0 h1

/-- A value stored in band `side c` is met there by `outAt d` when every element of the value is the one `outAt d` names. -/
theorem write_rows (d : Dev nD) (f : (cc0_stg1_0 : Ref sig .tc).ty.Contents (Elt F)) (w : S512x512.Idx → Elt F .bf16)
    (hw : ∀ x : S512x512.Idx, w x = outAt m d ((rows hro).emb x)) (j : S1024x512.Idx) (hj : j ∈ band (side c)) :
    (oM.slice (rows hro) (fun _ => rfl)).view.write (Elt F) f w Finset.univ j = outAt m d j := by
  rw [← rows_set hro h0 h1] at hj
  obtain ⟨x, rfl⟩ : ∃ x : S512x512.Idx, (rows hro).emb x = j := by
    rw [← Rect.map_emb_univ] at hj
    obtain ⟨x, -, e⟩ := Finset.mem_map.mp hj
    exact ⟨x, e⟩
  exact (View.write_emb_of_mem (v := (oM.slice (rows hro) (fun _ => rfl)).view) f w (Finset.mem_univ x)).trans (hw x)

theorem outAt_own (x : S512x512.Idx) : kept m c x = outAt m c ((rows hro).emb x) := by
  have hr := slice_emb_row hro h0 h1 x
  have hc := slice_emb_col hro h0 h1 x
  have hx : (x (0 : Fin 2)).val < 512 := (x (0 : Fin 2)).isLt
  unfold kept colBlk outAt
  rw [origin_own c _ _ (by rw [hr]; omega)]
  congr 1
  funext a
  revert a
  refine Fin.forall_fin_two.2 ⟨Fin.ext ?_, Fin.ext ?_⟩
  · show (x (0 : Fin 2)).val = ((rows hro).emb x (0 : Fin 2)).val % 512
    rw [hr]; omega
  · show 512 * side c + (x (1 : Fin 2)).val = 512 * side c + ((rows hro).emb x (1 : Fin 2)).val
    rw [hc]

theorem outAt_mate (x : S512x512.Idx) : sent m c x = outAt m (mate c) ((rows hro).emb x) := by
  have hr := slice_emb_row hro h0 h1 x
  have hc := slice_emb_col hro h0 h1 x
  have hx : (x (0 : Fin 2)).val < 512 := (x (0 : Fin 2)).isLt
  unfold sent colBlk outAt
  rw [origin_mate c _ _ (by rw [hr]; omega)]
  congr 1
  funext a
  revert a
  refine Fin.forall_fin_two.2 ⟨Fin.ext ?_, Fin.ext ?_⟩
  · show (x (0 : Fin 2)).val = ((rows hro).emb x (0 : Fin 2)).val % 512
    rw [hr]; omega
  · show 512 * (1 - side c) + (x (1 : Fin 2)).val = 512 * side (mate c) + ((rows hro).emb x (1 : Fin 2)).val
    rw [hc, side_mate]

end Writes

end Cert.KernelIdeal.Swap

end
-- ==== Proof.ProtocolKernelIdeal.lean ====
/-
The exchange over the x axis, part 2: who pays which semaphore, and what comes with the payment.

Each device has three cells, and each cell has one round with one payment.
* The barrier cell of `c` gets one unit from `mate c`. With it `c` gets the band of `mate c`'s result buffer into
  which `c` copies, and the fact that `mate c`'s receive cell is ready.
* The receive cell of `c` gets the copy's credit from `mate c`'s copy. With it `c` gets the landing band of its own
  result buffer, holding what `outAt` says.
* The send cell of `c` gets the copy's credit from `c`'s own copy, with the send buffer returned.
-/
module

public import proofs.«01_k».proof.Proof.BlocksKernelIdeal

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the staging pipeline's and the exchange's -/

abbrev UX : Type := URounds (GSem nD τ sig) Unit
abbrev UA : Type := UR sig nD τ × UX

local notation "𝕄" => MT nD τ sig Unit (Elt F) ℕ UA ℕ

abbrev EP : Emb (UR sig nD τ) (MT nD τ sig Unit (Elt F) ℕ UA ℕ) := embL
abbrev EX : Emb UX (MT nD τ sig Unit (Elt F) ℕ UA ℕ) := embR

variable (m : (ℓ : Loc nD τ sig) → Buf (Elt F) ℓ)

/-! ## Cells -/

inductive Role | bar | snd | rcv
  deriving DecidableEq

instance : Fintype Role := ⟨{.bar, .snd, .rcv}, fun k => by cases k <;> decide⟩

/-- The semaphore a device uses in each role: the barrier's, the copy's departure, the copy's arrival. -/
abbrev semOf : Role → SemLoc sig
  | .bar => .reg (SemArray.scalar (sig.barrier 0 rfl) : Sems sig S_).sem
  | .snd => .dma (cc0_scratch1 : DmaSems sig S_).sem
  | .rcv => .dma (cc0_scratch2 : DmaSems sig S_).sem

theorem semOf_injective : Function.Injective semOf := by
  intro a b h
  cases a <;> cases b <;> first | rfl | exact absurd h (by decide)

abbrev cell (c : Dev nD) (k : Role) : GSem nD τ sig := ((c : Thread nD τ), semOf k)

theorem cell_inj {c d : Dev nD} {k l : Role} (h : cell c k = cell d l) : c = d ∧ k = l :=
  ⟨congrArg (fun g : GSem nD τ sig => g.1.1) h, semOf_injective (congrArg Prod.snd h)⟩

/-- What one copy adds to each of the two cells it credits. -/
abbrev N : ℕ := (bM : Memref sig .tc .vmem S512x512 .bf16).view.dmaCredit

theorem N_pos : 0 < N := View.dmaCredit_pos _ (by decide)

/-- The amount of a cell's one payment. -/
def units : Role → ℕ
  | .bar => 1
  | _ => N

/-! ## Payloads -/

/-- Band `i` of device `c`'s result buffer, at the contents `f`. -/
def bandPts (c : Dev nD) (i : ℕ) (f : (cc0_stg1_0 : Ref sig .tc).ty.Contents (Elt F)) : sProp 𝕄 :=
  ((c : Thread nD τ).loc cc0_stg1_0) ↦[band i]{fullShare} (f : Buf (Elt F) ((c : Thread nD τ).loc cc0_stg1_0))

/-- Device `c`'s send buffer, at the contents `f`. -/
def sendPts (c : Dev nD) (f : (cc0_scratch0 : Ref sig .tc).ty.Contents (Elt F)) : sProp 𝕄 :=
  ((c : Thread nD τ).loc cc0_scratch0) ↦{fullShare} (f : Buf (Elt F) ((c : Thread nD τ).loc cc0_scratch0))

instance bandPts_storable (c : Dev nD) (i : ℕ) (f) : BI.Storable (upEmb : UEmb _ 𝕄) (bandPts (F := F) c i f) := by unfold bandPts; infer_instance
instance sendPts_storable (c : Dev nD) (f) : BI.Storable (upEmb : UEmb _ 𝕄) (sendPts (F := F) c f) := by unfold sendPts; infer_instance

/-- What comes with the payment of `c`'s cell in each role. -/
def pay (c : Dev nD) : Role → sProp 𝕄
  | .bar => iprop((∃ f, bandPts (mate c) (side c) f) ∗ reached EX (cell (mate c) .rcv) 0)
  | .rcv => bandPts c (1 - side c) (outAt m c)
  | .snd => sendPts c (sent m c)

instance pay_storable (c : Dev nD) (k : Role) : BI.Storable (upEmb : UEmb _ 𝕄) (pay m c k) := by
  cases k <;> unfold pay <;> infer_instance

/-- The role of a semaphore of the exchange. -/
def roleOf (s : SemLoc sig) : Option Role :=
  if s = semOf .bar then some .bar else if s = semOf .snd then some .snd else if s = semOf .rcv then some .rcv else none

theorem roleOf_semOf (k : Role) : roleOf (semOf k) = some k := by
  cases k <;> decide

/-- One round per cell, with the one payment named above. -/
def sched : Rounds.Schedule (GSem nD τ sig) Unit 𝕄 where
  duties g r := if r = 0 ∧ g.1.2 = .tc ∧ (roleOf g.2).isSome then Finset.univ else ∅
  unitless _ := False
  amount g _ _ := (roleOf g.2).elim 1 units
  payload g _ _ := (roleOf g.2).elim iprop(emp) (pay m g.1.1)
  amount_pos g _ _ _ := by
    cases roleOf g.2 with
    | none => exact Nat.one_pos
    | some k => cases k <;> first | exact Nat.one_pos | exact N_pos

instance sched_storable (g : GSem nD τ sig) (r : ℕ) (d : Unit) : BI.Storable (upEmb : UEmb _ 𝕄) ((sched (F := F) m).payload g r d) := by
  show BI.Storable upEmb ((roleOf g.2).elim iprop(emp) (pay m g.1.1))
  cases roleOf g.2 with
  | none => exact (inferInstance : BI.Storable (upEmb : UEmb _ 𝕄) iprop(emp))
  | some k => exact pay_storable m g.1.1 k

section Tables
variable (c : Dev nD) (k : Role)

theorem duties_now : (sched (F := F) m).duties (cell c k) 0 = Finset.univ :=
  if_pos ⟨rfl, rfl, by rw [show (cell c k).2 = semOf k from rfl, roleOf_semOf]; rfl⟩

theorem duty_mem : () ∈ (sched (F := F) m).duties (cell c k) 0 := by rw [duties_now]; exact Finset.mem_univ _

theorem duties_later (g : GSem nD τ sig) (r : ℕ) (hr : 1 ≤ r) : (sched (F := F) m).duties g r = ∅ :=
  if_neg fun h => by omega

theorem amount_now : (sched (F := F) m).amount (cell c k) 0 () = units k := by
  show (roleOf (semOf k)).elim 1 units = units k
  rw [roleOf_semOf]; rfl

theorem payload_now : (sched (F := F) m).payload (cell c k) 0 () = pay m c k := by
  show (roleOf (semOf k)).elim iprop(emp) (pay m c) = pay m c k
  rw [roleOf_semOf]; rfl

theorem expect_now : (sched (F := F) m).expect (cell c k) 0 = units k := by
  unfold Schedule.expect Schedule.amountOf
  rw [duties_now, Finset.univ_unique, Finset.sum_singleton]
  exact amount_now m c k

theorem rest_now : bigSep ((sched (F := F) m).duties (cell c k) 0 \ ∅) (fun d => (sched (F := F) m).payload (cell c k) 0 d) = pay m c k := by
  rw [Finset.sdiff_empty, duties_now, Finset.univ_unique, bigSep_singleton]
  exact payload_now m c k

end Tables

/-! ## What a device owes; the levels -/

/-- After its signal a device owes its partner's receive cell one copy. -/
abbrev dueCopy (c : Dev nD) : CellTallies nD τ sig Unit := tallyAt (cell (mate c) .rcv) () N
/-- At launch it also owes its partner's barrier cell one unit. -/
def due (c : Dev nD) : CellTallies nD τ sig Unit := dueCopy c + tallyAt (cell (mate c) .bar) () 1

def L (g : GSem nD τ sig) : Finset Unit := if g.1.2 = .tc then {()} else ∅

/-- Barrier cells lie below receive cells, every other cell below both. -/
def lv (g : GSem nD τ sig) (_ : Unit) : ℕ := match roleOf g.2 with
  | some .bar => 1
  | some .rcv => 2
  | _ => 0

theorem L_off (g : GSem nD τ sig) (h : g.1.2 ≠ .tc) : L g = ∅ := if_neg h
theorem L_on (c : Dev nD) (s : SemLoc sig) : () ∈ L ((c : Thread nD τ), s) := by unfold L; rw [if_pos rfl]; exact Finset.mem_singleton_self _
theorem lv_bar (c : Dev nD) : lv (cell c .bar) () = 1 := by unfold lv; rw [show (cell c .bar).2 = semOf .bar from rfl, roleOf_semOf]
theorem lv_rcv (c : Dev nD) : lv (cell c .rcv) () = 2 := by unfold lv; rw [show (cell c .rcv).2 = semOf .rcv from rfl, roleOf_semOf]

theorem of_tally_pos {g h : GSem nD τ sig} {n : ℕ} {u : Unit} (hp : 0 < (tallyAt h () n : CellTallies nD τ sig Unit) g u) : g = h := by
  by_contra hne
  rw [tallyAt_apply, if_neg fun e => hne e.1] at hp
  exact Nat.lt_irrefl 0 hp

theorem of_due_pos {c : Dev nD} {g : GSem nD τ sig} {u : Unit} (h : 0 < due c g u) : g = cell (mate c) .rcv ∨ g = cell (mate c) .bar := by
  unfold due at h
  rw [Pi.add_apply, Finsupp.add_apply] at h
  rcases Nat.eq_zero_or_pos (dueCopy c g u) with h0 | h0
  · rw [h0, Nat.zero_add] at h; exact .inr (of_tally_pos h)
  · exact .inl (of_tally_pos h0)

/-- At the barrier wait only the copy is owed. -/
theorem wait_bar (c : Dev nD) : (levAts L lv : sProp 𝕄) ⊢ MayWait (c : Thread nD τ) (semOf .bar) () (dueCopy c) :=
  MayOwe.of_cut (L := L) (lev := lv) 1 (fun p hp => by rw [Finset.mem_singleton.mp hp]; exact L_on c _)
    (fun g u hg => by rw [of_tally_pos hg]; exact L_on _ _)
    (fun p hp => by rw [Finset.mem_singleton.mp hp]; exact (lv_bar c).le)
    (fun g u hg => by rw [of_tally_pos hg]; exact (lv_rcv (mate c)).symm ▸ (by decide))

/-- The staging semaphores are waited on before the exchange, with everything owed, or after it, with nothing owed. -/
theorem wait_stage (c : Dev nD) (s : SemLoc sig) (hs : roleOf s = none) (O : CellTallies nD τ sig Unit) (hO : O = due c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp]; exact L_on c _) (fun g u hg => ?_)
      (fun p hp => by rw [Finset.mem_singleton.mp hp]; unfold lv; rw [show (((c : Thread nD τ), s) : GSem nD τ sig).2 = s from rfl, hs]) (fun g u hg => ?_)
    · rcases of_due_pos hg with rfl | rfl <;> exact L_on _ _
    · rcases of_due_pos hg with rfl | rfl
      · exact (lv_rcv (mate c)).symm ▸ (by decide)
      · exact (lv_bar (mate c)).symm ▸ (by decide)
  · rw [MayWait_zero]; iintro -; iempintro

end Cert.KernelIdeal.Swap

end
-- ==== Proof.BodyKernelIdeal.lean ====
/-
The exchange over the x axis, part 3: the kernel body on a symbolic device.

The kernel writes the exchange twice, once per side, with other offsets. `exchange` is that code at any offsets, and
`exchange_runs` runs it once. `body_runs` does the handshake, decides the side, and uses `exchange_runs`.
-/
module

public import proofs.«01_k».proof.Proof.ProtocolKernelIdeal

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ)

abbrev noVariants : Variants := Variants.none

/-! ## What a device holds -/

/-- The invariants device `c` opens: its own three cells and the two cells of its partner that it pays. -/
def invs (K : Dev nD × Role → ℕ) (c : Dev nD) : sProp 𝕄 :=
  iprop(cellInv EX (sched m) (K (c, .bar)) (cell c .bar) ∗ cellInv EX (sched m) (K (c, .snd)) (cell c .snd)
    ∗ cellInv EX (sched m) (K (c, .rcv)) (cell c .rcv)
    ∗ cellInv EX (sched m) (K (mate c, .bar)) (cell (mate c) .bar) ∗ cellInv EX (sched m) (K (mate c, .rcv)) (cell (mate c) .rcv))

instance invs_persistent (K : Dev nD × Role → ℕ) (c : Dev nD) : BI.Persistent (invs m K c) := by unfold invs; infer_instance

/-- The tokens of the three payments device `c` makes. -/
def payToks (c : Dev nD) : sProp 𝕄 :=
  iprop(dutyTok EX (cell (mate c) .bar) 0 () ∗ dutyTok EX (cell c .snd) 0 () ∗ dutyTok EX (cell (mate c) .rcv) 0 ())

/-- The ghost state device `c` starts from. -/
def ghost (K : Dev nD × Role → ℕ) (c : Dev nD) : sProp 𝕄 :=
  iprop(invs m K c ∗ (atPos EX (cell c .bar) 0 ∅ 0 ∗ atPos EX (cell c .snd) 0 ∅ 0 ∗ atPos EX (cell c .rcv) 0 ∅ 0)
    ∗ (reached EX (cell (mate c) .bar) 0 ∗ reached EX (cell c .snd) 0 ∗ reached EX (cell c .rcv) 0) ∗ payToks c)

/-- With the credit of its two cells that others pay, and the levels. -/
def start (c : Dev nD) : sProp 𝕄 :=
  iprop((∃ K, ghost m K c) ∗ cred (tallyAt (cell c .bar) () 1) ∗ cred (tallyAt (cell c .rcv) () N) ∗ levAts L lv)

def before (c : Dev nD) : sProp 𝕄 := iprop(start m c ∗ ∃ f, sendPts c f)

/-- At the end: the send buffer, and the three counters at zero. -/
def done (c : Dev nD) : sProp 𝕄 := iprop((∃ f, sendPts c f) ∗ semVal (cell c .snd) 0 ∗ semVal (cell c .rcv) 0 ∗ semVal (cell c .bar) 0)

/-! ## The pipeline's data -/

def dats (_ : Fin 1) (c : Dev nD) : Dat τ (Elt F) Unit ℕ UA ℕ cfg0 c where
  A w := m ((cfg0.win w).arr.view.loc (c : Thread nD τ))
  after w _ := match w with
    | ⟨0, _⟩ => xBlk m c
    | ⟨1, _⟩ => outAt m c
  Φ t := match t with
    | ⟨0, _⟩ => before m c
    | ⟨_ + 1, _⟩ => done c
  q _ := fullShare
  owed t := match t with
    | ⟨0, _⟩ => due c
    | ⟨_ + 1, _⟩ => 0

/-- A staging buffer of device `c` at known contents. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_eq_held (c : Dev nD) (b : Ref sig .tc) (X : b.ty.Contents (Elt F)) :
    (owns (Ix := Unit) (Name := ℕ) (U := UA) (Lvl := ℕ) (c : Thread nD τ) (Memref.whole b) fullShare X : sProp 𝕄) = held c b X := by
  unfold owns; simp only [Memref.view_whole, View.read_whole, View.set_whole]

/-! ## Accesses -/

theorem zero_offset : (![0, 0] : Fin 2 → ℕ) = fun _ => 0 := funext (Fin.forall_fin_two.2 ⟨rfl, rfl⟩)

/-- The whole send buffer, as the kernel accesses it. -/
abbrev allB : Rect S512x512 := Rect.unit (s := S512x512) ![0, 0] S512x512.size inb_S512x512_S512x512_0_0

theorem store_send (f w : (cc0_scratch0 : Ref sig .tc).ty.Contents (Elt F)) :
    ((bM : Memref sig .tc .vmem S512x512 .bf16).access allB : View sig .tc _ _ _).write (Elt F) f w Finset.univ = w :=
  Memref.write_access_unit_zero_univ (Elt F) cc0_scratch0 zero_offset _ f w

theorem held_send (c : Dev nD) :
    ((((bM : Memref sig .tc .vmem S512x512 .bf16).access allB).loc (c : Thread nD τ)) ↦{fullShare}
        (colBlk m c (1 - side c) (by omega) : Buf (Elt F) (((bM : Memref sig .tc .vmem S512x512 .bf16).access allB).loc (c : Thread nD τ))) : sProp 𝕄)
      = sendPts c (sent m c) := rfl

/-- The result buffer is its two bands. -/
theorem bands_eq (c : Dev nD) (f : Buf (Elt F) ((c : Thread nD τ).loc cc0_stg1_0)) :
    (((c : Thread nD τ).loc cc0_stg1_0) ↦{fullShare} f : sProp 𝕄) ⊣⊢ iprop(bandPts c (side c) f ∗ bandPts c (1 - side c) f) := by
  unfold bandPts
  rw [← bands_cover c]
  exact pointsTo_union (bands_disjoint c)

/-! ## The exchange at any offsets -/

section Exchange

variable (K : Dev nD × Role → ℕ)
variable {ro cs ck : Fin 2 → ℕ} (hro : ∀ a, ro a + S512x512.size a ≤ S1024x512.size a)
  (hcs : ∀ a, cs a + S512x512.size a ≤ S512x1024.size a) (hck : ∀ a, ck a + S512x512.size a ≤ S512x1024.size a)
  (hw : (rows hro).WholeWords (EltTy.packing .bf16)) (hp : (rows hro).PackedRows (EltTy.packing .bf16))
  (p q : Vec F S512x512 .bf16 → FVec F S512x512 .bf16)

/-- The named rows of the result buffer, as a buffer of their own. -/
abbrev rowM : Memref sig .tc .vmem S512x512 .bf16 := oM.slice (rows hro) (fun _ => rfl)

/-- One side's code: copy `p` of the columns at `cs` into the partner's rows at `ro`, store `q` of the columns at `ck` in
    the device's own rows at `ro`, and wait for both ends of the copy. -/
def exchange (n : Dev nD) : Prog (TpuEff nD τ sig (Elt F) Λ₀ .tc) PUnit := do
  let v ← Prog.lift (.load xM (cols hcs).toLoadRect (View.loadsAt_vmem h_S512x512))
  let _ ← Prog.lift (.load bM allB.toLoadRect (View.loadsAt_vmem h_S512x512))
  Prog.lift (.store bM allB (p v) Finset.univ (View.stores_vmem h_S512x512 ((Memref.isWhole_whole cc0_scratch0).storeExact_slice rfl _ packedbf16_S512x512_S512x512_0_0) (fun _ => rfl)) (.inl rfl))
  Prog.lift (.enqueueDma bM (.remote (Dev.tc n) (rowM hro) (semOf .snd)) (semOf .rcv)
    (Memref.isWhole_whole cc0_scratch0).wordExact ((Memref.isWhole_whole cc0_stg1_0).wordExact_slice rfl _ hw) ⟨⟨rfl, Or.inl rfl⟩, trivial⟩)
  let u ← Prog.lift (.load xM (cols hck).toLoadRect (View.loadsAt_vmem h_S512x512))
  let _ ← Prog.lift (.load oM (rows hro).toLoadRect (View.loadsAt_vmem h_S512x512))
  Prog.lift (.store oM (rows hro) (q u) Finset.univ (View.stores_vmem h_S512x512 ((Memref.isWhole_whole cc0_stg1_0).storeExact_slice rfl _ hp) (fun _ => rfl)) (.inl rfl))
  Prog.lift (.waitDma2 (cc0_scratch1 : DmaSems sig S_).sem (rowM hro) bM
    ((Memref.isWhole_whole cc0_stg1_0).wordExact_slice rfl _ hw) (Memref.isWhole_whole cc0_scratch0).wordExact)
  Prog.lift (.waitDma2 (cc0_scratch2 : DmaSems sig S_).sem bM (rowM hro)
    (Memref.isWhole_whole cc0_scratch0).wordExact ((Memref.isWhole_whole cc0_stg1_0).wordExact_slice rfl _ hw))
  pure ⟨⟩

/-- Both ends of the copy count the same amount. -/
theorem credit_rows : (rowM hro).view.dmaCredit = N := rfl

variable (c : Dev nD) (r0 : ro 0 = 512 * side c) (r1 : ro 1 = 0)

include r0 r1

/-- The copy into the partner's band. -/
theorem copy_runs {n : Dev nD} (hn : n = mate c)
    {hsc : (rowM hro : Memref sig (Dev.tc n : Thread nD τ).2.kind .vmem S512x512 .bf16).view.ref.isScScratch = false}
    {hsrc : (bM : Memref sig .tc .vmem S512x512 .bf16).view.WordExact} {hdst : (rowM hro).view.WordExact}
    {hsem : DmaTarget.Typed .vmem (semOf .rcv)
      (.remote (Dev.tc n : Thread nD τ) (rowM hro) (semOf .snd) hsc)}
    {Q : PUnit → sProp 𝕄} {k : PUnit → Prog (TpuEff nD τ sig (Elt F) Λ₀ .tc) PUnit}
    (f : (cc0_stg1_0 : Ref sig .tc).ty.Contents (Elt F)) (W : Waits sig Unit) :
    iprop(cellInv EX (sched m) (K (c, .snd)) (cell c .snd) ∗ cellInv EX (sched m) (K (mate c, .rcv)) (cell (mate c) .rcv)
        ∗ sendPts c (sent m c) ∗ bandPts (mate c) (side c) f ∗ owes (c : Thread nD τ) (dueCopy c) W
        ∗ dutyTok EX (cell c .snd) 0 () ∗ reached EX (cell c .snd) 0 ∗ dutyTok EX (cell (mate c) .rcv) 0 () ∗ reached EX (cell (mate c) .rcv) 0)
      ⊢ iprop(((cred (tallyAt (cell c .snd) () N) ∗ owes (c : Thread nD τ) 0 W)
            -∗ wp frame (wpE (defs₀ (F := F)) noVariants (c : Thread nD τ) none) Set.univ (k ⟨⟩) Q)
          -∗ wp frame (wpE (defs₀ (F := F)) noVariants (c : Thread nD τ) none) Set.univ
            (.op (.enqueueDma bM (.remote (Dev.tc n : Thread nD τ) (rowM hro) (semOf .snd) hsc) (semOf .rcv) hsrc hdst hsem) k) Q) := by
  subst hn
  have hset := slice_set hro r0 r1
  have hS : sendPts c (sent m c) = ((bM : Memref sig .tc .vmem S512x512 .bf16).view.loc (c : Thread nD τ)
      ↦[(bM : Memref sig .tc .vmem S512x512 .bf16).view.set]{fullShare} sent m c : sProp 𝕄) := by
    rw [View.set_whole]; rfl
  have hB : bandPts (mate c) (side c) f = ((rowM hro).view.loc (mate c : Thread nD τ)
      ↦[(rowM hro).view.set]{fullShare} f : sProp 𝕄) := by
    rw [hset]; rfl
  have hP : (((rowM hro).view.loc (mate c : Thread nD τ)
      ↦[(rowM hro).view.set]{fullShare}
        ((rowM hro).view.write (Elt F) f ((bM : Memref sig .tc .vmem S512x512 .bf16).view.read (Elt F) (sent m c)) Finset.univ)) : sProp 𝕄)
      ⊢ (sched m).payload (cell (mate c) .rcv) 0 () := by
    rw [payload_now, hset]
    show _ ⊢ bandPts (mate c) (1 - side (mate c)) (outAt m (mate c))
    rw [side_mate, show 1 - (1 - side c) = side c by have := side_lt c; omega]
    exact Entails.of_eq (pointsTo_congr fun j hj => write_rows m hro c r0 r1 (mate c) f _ (fun x => outAt_mate m hro c r0 r1 x) j hj)
  rw [hS, hB]
  exact Rounds.wp_send_pointsTo noVariants EX (sched m) (c : Thread nD τ) none (κ₁ := K (c, .snd)) (κ₂ := K (mate c, .rcv))
    (c' := (mate c : Thread nD τ)) (src := bM) (dst := rowM hro) (r₁ := 0) (r₂ := 0) (d₁ := ()) (d₂ := ()) (fs := sent m c)
    (fd := f) (duty_mem m c .snd) (duty_mem m (mate c) .rcv) () () N rfl (amount_now m c .snd) (amount_now m (mate c) .rcv)
    0 (zero_add (dueCopy c)).symm (W := W)
    (by rw [payload_now]; exact Entails.of_eq hS.symm) hP

variable (s0 : cs 0 = 0) (s1 : cs 1 = 512 * (1 - side c)) (k0 : ck 0 = 0) (k1 : ck 1 = 512 * side c)
  (hp' : ∀ v, p v = v) (hq' : ∀ v, q v = v)

/-- Loads from the device's own rows and stores to them stay in its band. -/
theorem rows_subset : (oM : Memref sig .tc .vmem S1024x512 .bf16).view.setOn (rows hro).toLoadRect.set ⊆ band (side c) := by
  show Finset.map _ _ ⊆ _
  rw [show (oM : Memref sig .tc .vmem S1024x512 .bf16).view.emb = Function.Embedding.refl _ from rfl, Finset.map_refl]
  exact (rows_set hro r0 r1).le

theorem store_own (f : (cc0_stg1_0 : Ref sig .tc).ty.Contents (Elt F)) :
    ((((oM : Memref sig .tc .vmem S1024x512 .bf16).access (rows hro)).loc (c : Thread nD τ)) ↦[band (side c)]{fullShare}
        (((oM : Memref sig .tc .vmem S1024x512 .bf16).access (rows hro)).write (Elt F) f (colBlk m c (side c) (side_lt c)) Finset.univ) : sProp 𝕄)
      = bandPts c (side c) (outAt m c) :=
  pointsTo_congr fun j hj => write_rows m hro c r0 r1 c f _ (fun x => outAt_own m hro c r0 r1 x) j hj

/-- What a device holds after the handshake. -/
def shaken (W : Waits sig Unit) : sProp 𝕄 :=
  iprop(invs m K c ∗ (atPos EX (cell c .bar) 1 ∅ 0 ∗ atPos EX (cell c .snd) 0 ∅ 0 ∗ atPos EX (cell c .rcv) 0 ∅ 0)
    ∗ reached EX (cell c .snd) 0 ∗ reached EX (cell (mate c) .rcv) 0
    ∗ dutyTok EX (cell c .snd) 0 () ∗ dutyTok EX (cell (mate c) .rcv) 0 () ∗ cred (tallyAt (cell c .rcv) () N)
    ∗ owes (c : Thread nD τ) (dueCopy c) W
    ∗ (((c : Thread nD τ).loc cc0_stg0_0) ↦{fullShare} xBlk m c) ∗ (∃ f, sendPts c f)
    ∗ (∃ f, bandPts c (side c) f) ∗ ∃ f, bandPts (mate c) (side c) f)

/-- What it holds after the exchange. -/
def exchanged : sProp 𝕄 :=
  iprop(done c ∗ (∃ W, owes (c : Thread nD τ) 0 W)
    ∗ (((c : Thread nD τ).loc cc0_stg0_0) ↦{fullShare} xBlk m c) ∗ (((c : Thread nD τ).loc cc0_stg1_0) ↦{fullShare} outAt m c))

include s0 s1 k0 k1 hp' hq' in
theorem exchange_runs (n : Dev nD) (hn : n = mate c) (W : Waits sig Unit) (Q : PUnit → sProp 𝕄) :
    iprop(shaken m K c W ∗ (exchanged m c -∗ Q ⟨⟩))
      ⊢ wp frame (wpE (defs₀ (F := F)) noVariants (c : Thread nD τ) none) Set.univ (exchange hro hcs hck hw hp p q n) Q := by
  unfold exchange
  simp only [Prog.lift, Prog.bind_op, Prog.bind_ret, Prog.pure_eq_ret]
  unfold shaken invs
  iintro ⟨⟨⟨#Ib, #Is, #Ir, -, #Im⟩, ⟨Pb, Ps, Pr⟩, #Rs, #Rm, Ts, Tm, Cr, HO, Hx, ⟨%fb, Hb⟩, ⟨%fo, Ho⟩, ⟨%fm, Hm⟩⟩, HQ⟩
  -- the columns to send, through the send buffer
  iapply (wp_load noVariants (c : Thread nD τ) none Set.univ (m := xM) (Finset.subset_univ _)) $$ Hx; iintro Hx
  rw [load_cols m hcs (by omega) s0 s1 c, hp']
  unfold sendPts
  iapply (wp_load noVariants (c : Thread nD τ) none Set.univ (m := bM) (Finset.subset_univ _)) $$ Hb; iintro Hb
  iapply (wp_store noVariants (c : Thread nD τ) none Set.univ (m := bM) (r := allB) (Mk := Finset.univ) (Finset.subset_univ _)) $$ Hb; iintro Hb
  rw [store_send]
  ihave Hb := (Entails.of_eq (held_send m c)) $$ Hb
  iapply (copy_runs m K hro c r0 r1 hn fm W) $$ [Hb Hm HO Ts Tm]
  · isplitr; · iexact Is
    isplitr; · iexact Im
    isplitl [Hb]; · iexact Hb
    isplitl [Hm]; · iexact Hm
    isplitl [HO]; · iexact HO
    isplitl [Ts]; · iexact Ts
    isplitr; · iexact Rs
    isplitl [Tm]; · iexact Tm
    iexact Rm
  iintro ⟨Cs, HO⟩
  -- the columns to keep, straight into the device's own band
  iapply (wp_load noVariants (c : Thread nD τ) none Set.univ (m := xM) (Finset.subset_univ _)) $$ Hx; iintro Hx
  rw [load_cols m hck (side_lt c) k0 k1 c, hq']
  unfold bandPts
  iapply (wp_load noVariants (c : Thread nD τ) none Set.univ (m := oM) (rows_subset hro c r0 r1)) $$ Ho; iintro Ho
  iapply (wp_store noVariants (c : Thread nD τ) none Set.univ (m := oM) (r := rows hro) (Mk := Finset.univ) ((slice_set hro r0 r1).le)) $$ Ho; iintro Ho
  ihave Ho := (Entails.of_eq (store_own m hro c r0 r1 fo)) $$ Ho
  -- both ends of the copy
  iapply (Rounds.wp_wait_rest_token noVariants EX (sched m) (c : Thread nD τ) none (κ := K (c, .snd))
      (wpE_waitDma2_eq (dst := bM) noVariants (c : Thread nD τ) none Set.univ) (Set.mem_univ _) () (O := 0) (W := W) (R := 0) (m := 0) (T := ∅)
      ((Nat.zero_add N).trans (expect_now m c .snd).symm)) $$ [Cs HO Ps]
  · isplitr; · iexact Is
    isplitl [Cs]; · iexact Cs
    isplitl [HO]; · iexact HO
    isplitr; · rw [MayWait_zero]; iempintro
    iexact Ps
  iintro ⟨HO, Ps, -, Hb⟩
  ihave Hb := (Entails.of_eq (rest_now m c .snd)) $$ Hb
  iapply (Rounds.wp_wait_rest_token noVariants EX (sched m) (c : Thread nD τ) none (κ := K (c, .rcv))
      (wpE_waitDma2_eq (dst := rowM hro) noVariants (c : Thread nD τ) none Set.univ) (Set.mem_univ _) () (O := 0) (W := insert (semOf .snd, ()) W) (R := 0) (m := 0) (T := ∅)
      ((Nat.zero_add _).trans ((credit_rows hro).trans (expect_now m c .rcv).symm))) $$ [Cr HO Pr]
  · isplitr; · iexact Ir
    isplitl [Cr]; · iexact Cr
    isplitl [HO]; · iexact HO
    isplitr; · rw [MayWait_zero]; iempintro
    iexact Pr
  iintro ⟨HO, Pr, -, Hl⟩
  ihave Hl := (Entails.of_eq (rest_now m c .rcv)) $$ Hl
  unfold pay
  imod (Rounds.cell_close EX (sched m) (Set.mem_univ (K (c, .bar))) (fun h => h) (R := 1) (duties_later m (cell c .bar))) $$ [Pb] with Zb
  · isplitr; · iexact Ib
    iexact Pb
  imod (Rounds.cell_close EX (sched m) (Set.mem_univ (K (c, .snd))) (fun h => h) (R := 1) (duties_later m (cell c .snd))) $$ [Ps] with Zs
  · isplitr; · iexact Is
    iexact Ps
  imod (Rounds.cell_close EX (sched m) (Set.mem_univ (K (c, .rcv))) (fun h => h) (R := 1) (duties_later m (cell c .rcv))) $$ [Pr] with Zr
  · isplitr; · iexact Ir
    iexact Pr
  rw [wp_ret]; imodintro
  iapply HQ
  unfold exchanged done
  isplitl [Hb Zb Zs Zr]
  · isplitl [Hb]; · iexists (sent m c); iexact Hb
    isplitl [Zs]; · iexact Zs
    isplitl [Zr] <;> iassumption
  isplitl [HO]; · iexists _; iexact HO
  isplitl [Hx]; · iexact Hx
  iapply (bands_eq c (outAt m c)).2
  isplitl [Ho] <;> iassumption

end Exchange

/-! ## The body -/

theorem shape_cast_id (v : Vec F S512x512 .bf16) (h : S512x512.ShapeCasts S512x512) : shapeCast S512x512 v h = v := shapeCast_self v h

theorem pay1_id (v : Vec F S512x512 .bf16) : k0_pay1 v = v := by exact (shape_cast_id _ _).trans (shape_cast_id v _)
theorem pay2_id (v : Vec F S512x512 .bf16) : k0_pay2 v = v := by exact shape_cast_id v _
theorem pay3_id (v : Vec F S512x512 .bf16) : k0_pay3 v = v := by exact (shape_cast_id _ _).trans (shape_cast_id v _)
theorem pay4_id (v : Vec F S512x512 .bf16) : k0_pay4 v = v := by exact shape_cast_id v _

abbrev code : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

def bodyPre (c : Dev nD) : sProp 𝕄 :=
  iprop(before m c ∗ (dats m 0 c).owesAt () t0_0.castSucc
    ∗ (∃ d, held c cc0_stg0_0 ((dats m 0 c).before (0 : Fin 2) t0_0 d)) ∗ (∃ d, held c cc0_stg1_0 ((dats m 0 c).before (1 : Fin 2) t0_0 d)))

def bodyPost (c : Dev nD) : sProp 𝕄 :=
  iprop(done c ∗ (dats m 0 c).owesAt () t0_0.succ ∗ held c cc0_stg0_0 (xBlk m c) ∗ held c cc0_stg1_0 (outAt m c))

/-- What the exchange leaves is what the body must leave. -/
theorem exchanged_post (c : Dev nD) : exchanged m c ⊢ bodyPost m c := by
  unfold exchanged bodyPost Dat.owesAt Pipeline.owesWithin
  iintro ⟨Hd, ⟨%W, HO⟩, Hx, Ho⟩
  rw [show (dats m 0 c).owed t0_0.succ = 0 from rfl]
  isplitl [Hd]; · iexact Hd
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem body_runs (c : Dev nD) : bodyPre m c ⊢ wp frame (wpE (defs₀ (F := F)) noVariants c none) Set.univ code (fun _ => bodyPost m c) := by
  unfold code
  simp only [cc0_body_eq_skeleton]; unfold cc0_body_skel
  simp only [semSignalWord, semWaitWord, Prog.lift, Prog.bind_op, Prog.bind_ret, wp_deviceId]
  unfold bodyPre before start ghost payToks
  iintro ⟨⟨⟨⟨%K, #HI, ⟨Pb, Ps, Pr⟩, ⟨#Rmb, #Rs, #Rr⟩, Tb, Ts, Tm⟩, Cb, Cr, #Hlev⟩, Hb⟩, Hw, ⟨%d0, %g0, %hg0, Hx⟩, ⟨%d1, %g1, -, Ho⟩⟩
  have hx : g0 = xBlk m c := by rw [hg0]; unfold Dat.before; rw [if_pos (fetch0_0 t0_0)]; rfl
  subst hx
  unfold Dat.owesAt Pipeline.owesWithin
  icases Hw with ⟨%W, -, HO⟩
  rw [show (dats m 0 c).owed t0_0.castSucc = dueCopy c + tallyAt (cell (mate c) .bar) () 1 from rfl]
  ihave Ho := (bands_eq c g1).1 $$ Ho
  icases Ho with ⟨Ho, Hl⟩
  simp only [signal_target c]
  ihave HI' := (show invs m K c ⊢ iprop(cellInv EX (sched m) (K (c, .bar)) (cell c .bar) ∗ cellInv EX (sched m) (K (mate c, .bar)) (cell (mate c) .bar)) from by
    unfold invs
    iintro ⟨#H1, -, -, #H2, -⟩
    isplitr <;> iassumption) $$ HI
  icases HI' with ⟨#Ib, #Imb⟩
  -- the signal hands the landing band over
  iapply (Rounds.wp_signal noVariants EX (sched m) (c : Thread nD τ) none (dst := (mate c : Thread nD τ)) (κ := K (mate c, .bar))
      (d := ()) (duty_mem m (mate c) .bar) ((amount_now m (mate c) .bar).trans (by decide)) () (dueCopy c) rfl) $$ [HO Tb Hl]
  · isplitr; · iexact Imb
    isplitl [HO]; · iexact HO
    isplitl [Tb]; · iexact Tb
    isplitl [Hl]
    · iapply (Entails.of_eq (payload_now m (mate c) .bar).symm)
      unfold pay; rw [mate_mate, side_mate]
      isplitl [Hl]; · iexists g1; iexact Hl
      iexact Rr
    · iexact Rmb
  iintro HO
  -- the wait brings the partner's
  iapply (Rounds.wp_wait_rest_token noVariants EX (sched m) (c : Thread nD τ) none (κ := K (c, .bar))
      (wpE_semWait_eq noVariants (c : Thread nD τ) none Set.univ) (Set.mem_univ _) () (O := dueCopy c) (W := W) (R := 0) (m := 0) (T := ∅)
      ((by decide : 0 + (1#32).toNat = units .bar).trans (expect_now m c .bar).symm)) $$ [Cb HO Pb]
  · isplitr; · iexact Ib
    isplitl [Cb]; · iexact Cb
    isplitl [HO]; · iexact HO
    isplitr; · iapply (wait_bar c); iexact Hlev
    iexact Pb
  iintro ⟨HO, Pb, -, Hpay⟩
  ihave Hpay := (Entails.of_eq (rest_now m c .bar)) $$ Hpay
  unfold pay
  icases Hpay with ⟨Hm, #Rm⟩
  ihave HS := (show iprop(invs m K c ∗ (atPos EX (cell c .bar) 1 ∅ 0 ∗ atPos EX (cell c .snd) 0 ∅ 0 ∗ atPos EX (cell c .rcv) 0 ∅ 0)
      ∗ reached EX (cell c .snd) 0 ∗ reached EX (cell (mate c) .rcv) 0
      ∗ dutyTok EX (cell c .snd) 0 () ∗ dutyTok EX (cell (mate c) .rcv) 0 () ∗ cred (tallyAt (cell c .rcv) () N)
      ∗ owes (c : Thread nD τ) (dueCopy c) (insert (semOf .bar, ()) W)
      ∗ (((c : Thread nD τ).loc cc0_stg0_0) ↦{fullShare} xBlk m c) ∗ (∃ f, sendPts c f)
      ∗ (∃ f, bandPts c (side c) f) ∗ ∃ f, bandPts (mate c) (side c) f) ⊢ shaken m K c (insert (semOf .bar, ()) W) from BI.Entails.refl _)
    $$ [Pb Ps Pr Ts Tm Cr HO Hx Hb Ho Hm]
  · isplitr; · iexact HI
    isplitl [Pb Ps Pr]
    · isplitl [Pb]; · iexact Pb
      isplitl [Ps] <;> iassumption
    isplitr; · iexact Rs
    isplitr; · iexact Rm
    isplitl [Ts]; · iexact Ts
    isplitl [Tm]; · iexact Tm
    isplitl [Cr]; · iexact Cr
    isplitl [HO]; · iexact HO
    isplitl [Hx]; · iexact Hx
    isplitl [Hb]; · iexact Hb
    isplitl [Ho]; · iexists g1; iexact Ho
    iexact Hm
  -- the side decides the branch
  have hside : c.val / 8 = 0 ∨ c.val / 8 = 1 := by have := side_lt c; unfold side at this; omega
  rcases hside with h | h
  · have hs : side c = 0 := h
    obtain ⟨h1, h2⟩ := cond_low c h
    rw [dif_pos h1, dif_neg h2]
    iapply (exchange_runs m K inb_S1024x512_S512x512_0_0 inb_S512x1024_S512x512_0_512 inb_S512x1024_S512x512_0_0
      wordsbf16_S1024x512_S512x512_0_0 packedbf16_S1024x512_S512x512_0_0 k0_pay1 k0_pay2 c (by rw [hs]; rfl) rfl rfl (by rw [hs]; rfl) rfl (by rw [hs]; rfl)
      pay1_id pay2_id _ (copy_target_low c h1) (insert (semOf .bar, ()) W) (fun _ => bodyPost m c))
    isplitl [HS]; · iexact HS
    iintro H; iapply (exchanged_post m c); iexact H
  · have hs : side c = 1 := h
    obtain ⟨h1, h2⟩ := cond_high c h
    rw [dif_neg h1, dif_pos h2]
    iapply (exchange_runs m K inb_S1024x512_S512x512_512_0 inb_S512x1024_S512x512_0_0 inb_S512x1024_S512x512_0_512
      wordsbf16_S1024x512_S512x512_512_0 packedbf16_S1024x512_S512x512_512_0 k0_pay3 k0_pay4 c (by rw [hs]; rfl) rfl rfl (by rw [hs]; rfl) rfl (by rw [hs]; rfl)
      pay3_id pay4_id _ (copy_target_high c h2) (insert (semOf .bar, ()) W) (fun _ => bodyPost m c))
    isplitl [HS]; · iexact HS
    iintro H; iapply (exchanged_post m c); iexact H

/-- The library's obligation for the body. -/
theorem obligation (c : Dev nD) : BodyObligation (dats (F := F) m 0 c) (defs₀ (F := F)) noVariants () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_eq_held]
  exact body_runs m c

end Cert.KernelIdeal.Swap

end
-- ==== Proof.RunKernelIdeal.lean ====
/-
The exchange over the x axis, part 4: the launch.

Every device's three cells are minted at once, the tokens are dealt to the devices that pay, and the launch theorem
runs all sixteen devices. `run_main` says that every run ends, with the arrays at `finalA` and every counter at zero.
`run_arrays` says the same with the arrays named: the result's holds `outAt`, the operand's is unchanged.
-/
module

public import proofs.«01_k».proof.Proof.BodyKernelIdeal
public import Idealize.ShloMosaic.Lib.Pipeline.CollectiveSegs

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ) (ρ : Dev nD → PrngReg)

/-- The state at launch. -/
abbrev atLaunch : MemSt nD τ sig (Elt F) := ⟨m, fun _ => 0, ρ⟩

/-! ## Minting -/

/-- The two semaphores the kernel scopes for itself. -/
abbrev ownSem : Fin 2 → SemLoc sig := fun i => match i with | 0 => semOf .snd | 1 => semOf .rcv

theorem own_facts : Pipeline.OwnSemFacts cfg0.spec ownSem := by decide

abbrev Spot : Type := Dev nD × Role

abbrev spotCell (x : Spot) : GSem nD τ sig := cell x.1 x.2

theorem spot_injective : Function.Injective spotCell := fun _ _ h => Prod.ext (cell_inj h).1 (cell_inj h).2

def allCells : Finset (GSem nD τ sig) := Finset.univ.map ⟨spotCell, spot_injective⟩

def allToks : Finset (GSem nD τ sig × ℕ × Unit) :=
  Finset.univ.map ⟨fun x : Spot => (spotCell x, 0, ()), fun _ _ h => spot_injective (congrArg Prod.fst h)⟩

def minted : UA := (initOf (Pipeline.cells cfgs cellOf_inj) (Pipeline.launchToks cfgs cellOf_inj), initOf allCells allToks)

theorem over_roles (Φ : Role → sProp 𝕄) : bigSep Finset.univ Φ = iprop(Φ .bar ∗ Φ .snd ∗ Φ .rcv) :=
  bigSep_univ_eq_bigSepL [Role.bar, Role.snd, Role.rcv] (by decide) (by decide) Φ

/-- A device's share of what is minted: for each of its cells the round state, the position, the record, the token. -/
def share (c : Dev nD) : sProp 𝕄 :=
  iprop((bigSep Finset.univ fun k => roundState EX (sched m) (cell c k) 0)
    ∗ (bigSep Finset.univ fun k => atPos EX (cell c k) 0 ∅ 0)
    ∗ (bigSep Finset.univ fun k => reached EX (cell c k) 0)
    ∗ bigSep Finset.univ fun k => dutyTok EX (cell c k) 0 ())

theorem exchange_first (A B C : sProp 𝕄) : iprop(A ∗ B ∗ C) ⊢ iprop(B ∗ A ∗ C) := by
  iintro ⟨Ha, Hb, Hc⟩
  isplitl [Hb]; · iexact Hb
  isplitl [Ha] <;> iassumption

theorem mint : BI.own (EX (initOf allCells allToks)) ⊢ (|==> bigSep Finset.univ (share m) : sProp 𝕄) := by
  have hC (Φ : GSem nD τ sig → sProp 𝕄) : bigSep allCells Φ = bigSep Finset.univ fun c : Dev nD => bigSep Finset.univ fun k => Φ (cell c k) := by
    unfold allCells; rw [bigSep_map, bigSep_univ_prod]; rfl
  have hT : bigSep allToks (fun x => (dutyTok EX x.1 x.2.1 x.2.2 : sProp 𝕄))
      = bigSep Finset.univ fun c : Dev nD => bigSep Finset.univ fun k => dutyTok EX (cell c k) 0 () := by
    unfold allToks; rw [bigSep_map, bigSep_univ_prod]; rfl
  refine (Rounds.fund EX (sched m) allCells allToks).trans (BI.bupd_mono ?_)
  rw [hT]
  simp only [hC]
  unfold share
  simp only [bigSep_sep']
  exact sep_mono_right (exchange_first _ _ _)

/-! ## The invariants -/

theorem own_sems (c : Dev nD) : (Pipeline.ownSems0 (Ix := Unit) (Name := ℕ) (U := UA) (Lvl := ℕ) (Val := Elt F) (τ := τ) ownSem c : sProp 𝕄)
    = iprop(semVal (cell c .snd) 0 ∗ semVal (cell c .rcv) 0) := by
  rw [Pipeline.ownSems0_eq_of_list c ownSem [0, 1] (by decide) (by decide)]; rfl

theorem free_sems (c : Dev nD) : (unscopedSems0 c : sProp 𝕄) = semVal (cell c .bar) 0 := by
  unfold unscopedSems0; rw [bigSep_eq_bigSepL_of_eq [semOf .bar] (by decide) (by decide)]; rfl

theorem counters (c : Dev nD) :
    iprop(Pipeline.ownSems0 (Ix := Unit) (Name := ℕ) (U := UA) (Lvl := ℕ) (Val := Elt F) (τ := τ) ownSem c ∗ unscopedSems0 c)
      ⊢ (bigSep Finset.univ fun k => semVal (cell c k) 0 : sProp 𝕄) := by
  rw [own_sems, free_sems, over_roles]
  iintro ⟨⟨Hs, Hr⟩, Hb⟩
  isplitl [Hb]; · iexact Hb
  isplitl [Hs] <;> iassumption

/-- A device's cells become invariants; the rest of its share stays. -/
theorem invariants (c : Dev nD) :
    iprop(Pipeline.ownSems0 (Ix := Unit) (Name := ℕ) (U := UA) (Lvl := ℕ) (Val := Elt F) (τ := τ) ownSem c ∗ unscopedSems0 c ∗ share m c)
      ⊢ |={Set.univ}=> iprop((bigSep Finset.univ fun k => iprop(∃ κ : ℕ, cellInv EX (sched m) κ (cell c k)))
          ∗ (bigSep Finset.univ fun k => atPos EX (cell c k) 0 ∅ 0)
          ∗ (bigSep Finset.univ fun k => reached EX (cell c k) 0)
          ∗ bigSep Finset.univ fun k => dutyTok EX (cell c k) 0 ()) := by
  have hinv : iprop((bigSep Finset.univ fun k => semVal (cell c k) 0) ∗ bigSep Finset.univ fun k => roundState EX (sched m) (cell c k) 0)
      ⊢ (|={Set.univ}=> bigSep Finset.univ fun k => iprop(∃ κ : ℕ, cellInv EX (sched m) κ (cell c k)) : sProp 𝕄) := by
    rw [← bigSep_sep']
    exact (bigSep_mono fun k _ => (Rounds.body_intro EX (sched m) (cell c k)).trans inv_alloc).trans (bigSep_fupd _ _)
  unfold share
  iintro ⟨Ho, Hu, Hs, Hrest⟩
  ihave Hv := (counters (F := F) c) $$ [Ho Hu]
  · isplitl [Ho] <;> iassumption
  imod hinv $$ [Hv Hs] with Hi
  · isplitl [Hv] <;> iassumption
  imodintro
  isplitl [Hi] <;> iassumption

/-! ## Dealing -/

/-- All invariants and all records, which every device may use. -/
def known (K : Spot → ℕ) : sProp 𝕄 :=
  iprop((bigSep Finset.univ fun x : Spot => cellInv EX (sched m) (K x) (spotCell x)) ∗ bigSep Finset.univ fun x : Spot => reached EX (spotCell x) 0)

instance known_persistent (K : Spot → ℕ) : BI.Persistent (known m K) := by unfold known; infer_instance

theorem one_of {I : Type} [Fintype I] [DecidableEq I] (Φ : I → sProp 𝕄) (x : I) : bigSep Finset.univ Φ ⊢ Φ x := bigSep_elim (Finset.mem_univ x)

theorem known_inv (K : Spot → ℕ) (x : Spot) : known m K ⊢ cellInv EX (sched m) (K x) (spotCell x) := by
  unfold known; iintro ⟨H, -⟩; iapply (one_of (fun x : Spot => (cellInv EX (sched m) (K x) (spotCell x) : sProp 𝕄)) x); iexact H

theorem known_reached (K : Spot → ℕ) (x : Spot) : known m K ⊢ reached EX (spotCell x) 0 := by
  unfold known; iintro ⟨-, H⟩
  iapply (one_of (fun x : Spot => (reached EX (spotCell x) 0 : sProp 𝕄)) x); iexact H

/-- The ghost state of one device, from what all know and what only it holds. -/
theorem ghost_of (K : Spot → ℕ) (c : Dev nD) :
    iprop(known m K ∗ (bigSep Finset.univ fun k => atPos EX (cell c k) 0 ∅ 0) ∗ payToks c) ⊢ iprop(∃ K, ghost m K c) := by
  rw [over_roles]
  unfold ghost invs
  iintro ⟨#H, Hp, Ht⟩
  iexists K
  isplitr
  · isplitr; · iapply (known_inv m K (c, .bar)); iexact H
    isplitr; · iapply (known_inv m K (c, .snd)); iexact H
    isplitr; · iapply (known_inv m K (c, .rcv)); iexact H
    isplitr; · iapply (known_inv m K (mate c, .bar)); iexact H
    iapply (known_inv m K (mate c, .rcv)); iexact H
  isplitl [Hp]; · iexact Hp
  isplitr
  · isplitr; · iapply (known_reached m K (mate c, .bar)); iexact H
    isplitr; · iapply (known_reached m K (c, .snd)); iexact H
    iapply (known_reached m K (c, .rcv)); iexact H
  iexact Ht

/-- The tokens of barrier and receive cells go to the partner, who pays them. -/
theorem deal : (bigSep Finset.univ fun c : Dev nD => (bigSep Finset.univ fun k => dutyTok EX (cell c k) 0 () : sProp 𝕄))
    = bigSep Finset.univ fun c : Dev nD => payToks c := by
  unfold payToks
  simp only [over_roles, bigSep_sep']
  rw [bigSep_univ_equiv pairing (fun c : Dev nD => (dutyTok EX (cell c .bar) 0 () : sProp 𝕄)),
    bigSep_univ_equiv pairing (fun c : Dev nD => (dutyTok EX (cell c .rcv) 0 () : sProp 𝕄))]
  rfl

/-- What all devices know is at hand for each of them. -/
theorem with_known (K : Spot → ℕ) {Φ Ψ : Dev nD → sProp 𝕄} (h : ∀ c, iprop(known m K ∗ Φ c) ⊢ Ψ c) :
    iprop(known m K ∗ bigSep Finset.univ Φ) ⊢ bigSep Finset.univ Ψ := by
  have hall := bigSep_mono (s := (Finset.univ : Finset (Dev nD))) fun c _ => h c
  rw [bigSep_sep'] at hall
  exact (sep_mono_left (BI.bigSep_of_persistent Finset.univ (known m K))).trans hall

theorem dealt :
    (bigSep Finset.univ fun c : Dev nD => iprop((bigSep Finset.univ fun k => iprop(∃ κ : ℕ, cellInv EX (sched m) κ (cell c k)))
          ∗ (bigSep Finset.univ fun k => atPos EX (cell c k) 0 ∅ 0)
          ∗ (bigSep Finset.univ fun k => reached EX (cell c k) 0)
          ∗ bigSep Finset.univ fun k => dutyTok EX (cell c k) 0 ()) : sProp 𝕄)
      ⊢ bigSep Finset.univ fun c : Dev nD => iprop(∃ K, ghost m K c) := by
  rw [bigSep_sep', bigSep_sep', bigSep_sep', deal, ← bigSep_univ_prod (fun x : Spot => iprop(∃ κ : ℕ, cellInv EX (sched m) κ (spotCell x))),
    ← bigSep_univ_prod (fun x : Spot => (reached EX (spotCell x) 0 : sProp 𝕄))]
  iintro ⟨Hi, Hp, #Hr, Ht⟩
  ihave Hi := (BI.bigSep_exists_pi Finset.univ (fun (x : Spot) (κ : ℕ) => (cellInv EX (sched m) κ (spotCell x) : sProp 𝕄))) $$ Hi
  icases Hi with ⟨%K, #Hi⟩
  iapply (with_known m K fun c => ghost_of m K c)
  isplitr
  · unfold known; isplitr <;> iassumption
  rw [bigSep_sep']
  isplitl [Hp] <;> iassumption

theorem world : (bigSep Finset.univ fun c => iprop(Pipeline.ownSems0 (Ix := Unit) (Name := ℕ) (U := UA) (Lvl := ℕ) (Val := Elt F) (τ := τ) ownSem c ∗ unscopedSems0 c ∗ share m c) : sProp 𝕄)
    ⊢ |={Set.univ}=> bigSep Finset.univ fun c : Dev nD => iprop(∃ K, ghost m K c) :=
  ((bigSep_mono fun c _ => invariants m c).trans (bigSep_fupd _ _)).trans (BI.fupd_mono (dealt m))

/-! ## The credit at launch -/

/-- What `d` owes the cell of `c` in a role that partners pay. -/
theorem tally_mate (d c : Dev nD) (k l : Role) (n : ℕ) :
    (tallyAt (cell (mate d) k) () n : CellTallies nD τ sig Unit) (cell c l) () = if k = l then (if d = mate c then n else 0) else 0 := by
  rw [tallyAt_apply]
  by_cases hk : k = l
  · rw [if_pos hk]
    by_cases hd : d = mate c
    · rw [if_pos hd, if_pos ⟨by rw [hd, mate_mate, hk], rfl⟩]
    · rw [if_neg hd, if_neg fun h => hd ((mate_mate d).symm.trans (congrArg mate (cell_inj h.1).1.symm))]
  · rw [if_neg hk, if_neg fun h => hk (cell_inj h.1).2.symm]

theorem due_at (d c : Dev nD) (l : Role) : due d (cell c l) () = if d = mate c then (if l = .rcv then N else if l = .bar then 1 else 0) else 0 := by
  unfold due dueCopy
  rw [Pi.add_apply, Finsupp.add_apply, tally_mate, tally_mate]
  cases l <;> simp

theorem credit_at (c : Dev nD) (l : Role) : tallyOn (cell c l) (launchCredit (Pipeline.owing due) 0 (cell c l))
    = (tallyAt (cell c l) () (if l = .rcv then N else if l = .bar then 1 else 0) : CellTallies nD τ sig Unit) := by
  unfold tallyAt; refine congrArg _ (Finsupp.ext fun u => ?_); cases u
  rw [Pipeline.launchCredit_owing, Finsupp.single_eq_same, Finset.sum_congr rfl fun d _ => due_at d c l,
    Finset.sum_ite_eq' Finset.univ (mate c), if_pos (Finset.mem_univ _)]

theorem credits (c : Dev nD) : (Pipeline.launchCred due c : sProp 𝕄) ⊢ iprop(cred (tallyAt (cell c .bar) () 1) ∗ cred (tallyAt (cell c .rcv) () N)) := by
  unfold Pipeline.launchCred
  rw [bigSep_univ_at _ (semOf .bar), show tallyOn ((c.tc : Thread nD τ), semOf .bar) _ = tallyAt (cell c .bar) () 1 from credit_at c .bar]
  refine sep_mono_right ?_
  rw [show (tallyAt (cell c .rcv) () N : CellTallies nD τ sig Unit) = _ from (credit_at c .rcv).symm]
  exact bigSep_elim (Finset.mem_erase.mpr ⟨fun h => absurd (semOf_injective h) (by decide), Finset.mem_univ _⟩)

/-! ## The run -/

theorem full_share (c : Dev nD) (w : Fin cfg0.W) : (dats m 0 c).share w = fullShare := by unfold Dat.share; split <;> rfl

theorem start_of (c : Dev nD) :
    iprop(Pipeline.unscopedRestP Pipeline.Prefetch.none cfg0.spec c (fun b => m ((c : Thread nD τ).loc b)) ∗ levAts L lv
        ∗ Pipeline.launchCred due c ∗ prngReg c (ρ c) ∗ ∃ K, ghost m K c)
      ⊢ |={Set.univ}=> iprop(start m c ∗ emp) := by
  iintro ⟨-, Hl, Hc, -, Hg⟩
  ihave Hc := (credits (F := F) c) $$ Hc
  icases Hc with ⟨Hb, Hr⟩
  imodintro
  unfold start
  isplitl
  · isplitl [Hg]; · iexact Hg
    isplitl [Hb]; · iexact Hb
    isplitl [Hr] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before sendPts
  iintro ⟨Hs, -, Hr⟩
  isplitl [Hs] <;> iassumption

theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = done c from rfl, scopedRest0_eq, own_sems, free_sems]
  unfold done sendPts
  iintro ⟨Hf, Hs, Hr, Hb⟩
  isplitl [Hb]; · iexact Hb
  isplitl [Hs Hr]
  · isplitl [Hs] <;> iassumption
  iexact Hf

theorem waits (c : Dev nD) : (levAts L lv : sProp 𝕄) ⊢ Pipeline.cellsWaits cfgs (dats m) () 0 c :=
  Pipeline.cellsWaits_intro cfgs (dats m) () 0 c fun w s t =>
    wait_stage c _ (by fin_cases w <;> fin_cases s <;> decide) _ (by
      rcases t with ⟨_ | _, ht⟩
      · exact Or.inl rfl
      · exact Or.inr rfl)

/-- The contents of a device's array at the end. -/
def finalA (c : Dev nD) (w : Fin cfg0.W) : Buf (Elt F) ((cfg0.win w).arr.view.loc (c : Thread nD τ)) := (dats m 0 c).arrAt w cfg0.N

/-- Every run of the sixteen devices ends, with the arrays at `finalA` and every counter at zero. -/
theorem run_main : θ_run defs (onTc (τ := τ) (main (F := F))) (atLaunch m ρ)
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ noVariants m ρ main
    (hmain := fun _ => rfl)
    (hbody := obligation m) (hne := fun w => by fin_cases w <;> exact Nat.succ_pos _) (harr := arr_whole0) (hstage := stage_whole0) (hshare := full_share m)
    (hdistinct := winFacts0.arr_inj)
    (O₀ := due) (howed₀ := fun _ => rfl) (howedN := fun _ => rfl)
    (L := L) (lv := lv) (hL := L_off) (hwaits := waits m)
    (G := share m) (G' := fun c => iprop(∃ K, ghost m K c)) (u₀ := minted)
    (hu₀ := by
      unfold minted
      iintro Hu
      ihave H := (ownU_pair _ _) $$ Hu
      icases H with ⟨HP, HX⟩
      imod (mint m) $$ HX with HG
      imodintro
      isplitl [HP] <;> iassumption)
    (hglob := world m)
    (hA := fun _ _ => rfl) (hpf := fun _ k => k.elim0)
    (X := start m) (Y := fun c => unscopedSems0 c) (Z := fun _ => iprop(emp))
    (hX := start_of m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The operand's array holds what it held. -/
theorem finalA_arg (c : Dev nD) : finalA m c (0 : Fin 2) = m (win0_0.arr.view.loc (c : Thread nD τ)) :=
  (dats (F := F) m 0 c).arrAt_in (0 : Fin 2) rfl _

/-- The windows are whole arrays, so reading one through its only block changes nothing. -/
theorem read_arg (c : Dev nD) (f : Buf (Elt F) ((c : Thread nD τ).loc main_arg0)) : (win0_0.blk (0 : Fin 1)).view.read (Elt F) f = f := by
  funext j
  show f _ = f _
  congr 1
  funext a
  revert a
  exact Fin.forall_fin_two.2 ⟨Fin.ext (by show 0 * 512 + 1 * (j 0).val = _; omega), Fin.ext (by show 0 * 1024 + 1 * (j 1).val = _; omega)⟩

theorem read_result (c : Dev nD) (f : Buf (Elt F) ((c : Thread nD τ).loc main_v1)) : (win0_1.blk (0 : Fin 1)).view.read (Elt F) f = f := by
  funext j
  show f _ = f _
  congr 1
  funext a
  revert a
  exact Fin.forall_fin_two.2 ⟨Fin.ext (by show 0 * 1024 + 1 * (j 0).val = _; omega), Fin.ext (by show 0 * 512 + 1 * (j 1).val = _; omega)⟩

/-- The result's array holds what the body leaves in its staging buffer. -/
theorem finalA_result (c : Dev nD) : finalA m c (1 : Fin 2) = outAt m c := by
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact (read_result c _).symm.trans (View.read_write_univ _ _)

/-- The run, read at the operand and at the result. -/
theorem run_arrays : θ_run defs (onTc (τ := τ) (main (F := F))) (atLaunch m ρ)
    (fun r => (∀ c : Dev nD, r.2.mem ((c : Thread nD τ).loc main_v1) = outAt m c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_result m c), (h.1 c (0 : Fin 2)).trans (finalA_arg m c)⟩, h.2⟩) (run_main m ρ)

end Cert.KernelIdeal.Swap

end
-- ==== Proof.Value.lean ====
/-
The exchange over the x axis, part 5: what the result is.

Before the run device `c` holds rows `512 * side c` to `512 * side c + 511` of the whole matrix. After the run it holds
columns `512 * side c` to `512 * side c + 511`. Both statements are about positions only.
-/
module

public import proofs.«01_k».proof.Proof.RunKernelIdeal
public import Idealize.ShloMosaic.Lib.Layout

@[expose] public section

noncomputable section

namespace Cert.KernelIdeal.Swap

open Cert.KernelIdeal Cert.KernelIdeal.Gen
open Idealize.ShloMosaic Idealize.ShloMosaic.TcCoe

variable {F : FTy → Type} [FloatOps F]
variable (m : (ℓ : Loc nD τ sig) → Buf (Elt F) ℓ)

/-- The whole matrix. -/
abbrev SAll : Shape := ⟨2, ![1024, 1024]⟩

/-- The rows device `c` starts with. -/
abbrev rowBlock (c : Dev nD) (v : SAll.Idx → Elt F .bf16) : S512x1024.Idx → Elt F .bf16 :=
  Layout.blockN ⟨2, ![512, 1024]⟩ ⟨2, ![1024, 1024]⟩ (Layout.meshBlock [2, 2, 4] ![[0], []] c) v

/-- The columns device `c` ends with. -/
abbrev colBlock (c : Dev nD) (v : SAll.Idx → Elt F .bf16) : S1024x512.Idx → Elt F .bf16 :=
  Layout.blockN ⟨2, ![1024, 512]⟩ ⟨2, ![1024, 1024]⟩ (Layout.meshBlock [2, 2, 4] ![[], [0]] c) v

/-- The mesh's first coordinate is the side. -/
theorem mesh_side (c : Dev nD) : Layout.meshLin [2, 2, 4] c.val [0] = side c := by
  show c.val / 8 % 2 * 1 + 0 = c.val / 8
  have := dev_lt c; omega

theorem side_origin (c : Dev nD) (r : ℕ) (hr : r < 1024) : side (origin c r hr) = r / 512 := by
  show (8 * (r / 512) + c.val % 8) / 8 = r / 512
  omega

theorem result_columns (v : SAll.Idx → Elt F .bf16) (h : ∀ c : Dev nD, m ((c : Thread nD τ).loc main_arg0) = rowBlock c v) (c : Dev nD) :
    outAt m c = colBlock c v := by
  funext j
  unfold outAt xBlk
  rw [read_arg, h]
  show v _ = v _
  congr 1
  funext a
  revert a
  have hj := row_lt j
  refine Fin.forall_fin_two.2 ⟨Fin.ext ?_, Fin.ext ?_⟩
  · show Layout.meshLin [2, 2, 4] (origin c (j 0).val hj).val [0] * 512 + (j 0).val % 512 = 0 * 1024 + (j 0).val
    rw [mesh_side, side_origin]; omega
  · show 0 * 1024 + (512 * side c + (j 1).val) = Layout.meshLin [2, 2, 4] c.val [0] * 512 + (j 1).val
    rw [mesh_side]; omega

end Cert.KernelIdeal.Swap

end
-- ==== Proof.RefRun.lean ====
/-
The reference returns its argument: it has no operation, so its run changes no memory.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Same

open Cert.ReferenceIdeal Cert.ReferenceIdeal.Gen
open Idealize.ShloMosaic Idealize.ShloMosaic.TcCoe Idealize.ShloMosaic.StableHlo Idealize.SL.Sem

variable {F : FTy → Type} [FloatOps F]

theorem no_scoped_refs : (Finset.univ.filter fun b : Ref sig .tc => b.isScoped) = ∅ := by decide
theorem no_scoped_sems : (Finset.univ.filter fun s : SemLoc sig => s.isScoped .tc) = ∅ := by decide

/-- Every run ends with the argument, which is also the result, as it was, and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq no_scoped_refs no_scoped_sems defs main (fun _ => []) (fun _ => rfl) (fun _ => trivial) m ρ)

end Cert.ReferenceIdeal.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RunKernel
public import proofs.«01_k».proof.Proof.RunKernelIdeal
public import proofs.«01_k».proof.Proof.Value
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The kernel, at the machine's floats: the run with the values dropped. -/
theorem kernel_frame : Cert.quiescent_Kernel := fun m g _ =>
  (θ_run Cert.Kernel.defs _ _).mono (fun _ h => ⟨fun c => (h.1 c).2, h.2⟩) (Cert.Kernel.Swap.run_arrays (F := Bits) m g)

/-- The kernel, at the ideal floats. -/
theorem ideal_frame : Cert.quiescent_KernelIdeal := fun m g _ =>
  (θ_run Cert.KernelIdeal.defs _ _).mono (fun _ h => ⟨fun c => (h.1 c).2, h.2⟩) (Cert.KernelIdeal.Swap.run_arrays (F := Ideal) m g)

/-- The reference. -/
theorem reference_frame : Cert.quiescent_ReferenceIdeal := fun m g _ => Cert.ReferenceIdeal.Same.run_main (F := Ideal) m g

/-- Each device ends with its columns of the matrix the reference returns. -/
theorem values : Cert.algebraic_KernelIdeal_ReferenceIdeal := fun m g m' g' _ hin =>
  ⟨_, (θ_run Cert.KernelIdeal.defs _ _).mono
      (fun _ h c => ⟨(h.1 c).1.trans (Cert.KernelIdeal.Swap.result_columns m _ hin c), (h.1 c).2⟩) (Cert.KernelIdeal.Swap.run_arrays (F := Ideal) m g),
    (θ_run Cert.ReferenceIdeal.defs _ _).mono (fun _ h => ⟨h.1 0, h.1 0⟩) (Cert.ReferenceIdeal.Same.run_main (F := Ideal) m' g')⟩

theorem claim : Cert.Claim :=
  ⟨Cert.Kernel.Gen.facts, Cert.KernelIdeal.Gen.facts, Cert.ReferenceIdeal.Gen.facts, kernel_frame, ideal_frame, reference_frame, trivial, values⟩

end Cert.Proof

end
